-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x1024 : Shape := ⟨3, ![8, 4096, 1024]⟩
abbrev S1x4096x512 : Shape := ⟨3, ![1, 4096, 512]⟩
abbrev S256x256 : Shape := ⟨2, ![256, 256]⟩
abbrev S4096x512 : Shape := ⟨2, ![4096, 512]⟩
abbrev S256x1 : Shape := ⟨2, ![256, 1]⟩
abbrev S1x512 : Shape := ⟨2, ![1, 512]⟩
abbrev S256x512 : Shape := ⟨2, ![256, 512]⟩
abbrev S1x256x512 : Shape := ⟨3, ![1, 256, 512]⟩

abbrev nBuf : Space → Nat
  | .hbm => 2
  | .vmem => 4
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .local _ .vmem, ⟨0, _⟩ => ⟨S1x4096x512, .f32⟩
  | .local _ .vmem, ⟨1, _⟩ => ⟨S1x4096x512, .f32⟩
  | .local _ .vmem, ⟨2, _⟩ => ⟨S1x4096x512, .f32⟩
  | .local _ .vmem, ⟨3, _⟩ => ⟨S1x4096x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S8x4096x1024 : Shape := ⟨3, ![8, 4096, 1024]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S8x1024x4096 : Shape := ⟨3, ![8, 1024, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S_, .f32⟩
  | .hbm, ⟨2, _⟩ => ⟨S4096x4096, .f32⟩
  | .hbm, ⟨3, _⟩ => ⟨S4096x4096, .i32⟩
  | .hbm, ⟨4, _⟩ => ⟨S_, .i32⟩
  | .hbm, ⟨5, _⟩ => ⟨S4096x4096, .i32⟩
  | .hbm, ⟨6, _⟩ => ⟨S4096x4096, .i32⟩
  | .hbm, ⟨7, _⟩ => ⟨S4096x4096, .i32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .i1⟩
  | .hbm, ⟨15, _⟩ => ⟨S_, .f32⟩
  | .hbm, ⟨16, _⟩ => ⟨S4096x4096, .f32⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096x1, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S8x1024x4096, .f32⟩
  | .hbm, ⟨36, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_cst_2 : Ref sig .tc := ⟨.hbm, 17, rfl⟩
abbrev main_call1_v0 : Ref sig .tc := ⟨.hbm, 18, rfl⟩
abbrev main_call1_v1 : Ref sig .tc := ⟨.hbm, 19, rfl⟩
abbrev main_v5 : Ref sig .tc := ⟨.hbm, 20, rfl⟩
abbrev main_cst_3 : Ref sig .tc := ⟨.hbm, 21, rfl⟩
abbrev main_v6 : Ref sig .tc := ⟨.hbm, 22, rfl⟩
abbrev main_cst_4 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩

abbrev nD : Nat := 1
abbrev τ : Topo := Topo.v7x

variable {F : FTy → Type} [FloatOps F]
-- ==== Proof.Tile.lean ====
/- The kernel's body as one family of tiles: the stores into the output block are the sixteen members of one recursion
   over the tile number (a masked product per tile, and the running sum of the products' last rows). -/
module

public import proofs.«01_k».proof.Proof.Gen.KernelIdeal.Frame
public import Idealize.ShloMosaic.Lib.Pipeline.ValueKit

@[expose] public section

set_option maxRecDepth 16384

noncomputable section

namespace Cert.KernelIdeal.Tile

open Cert.KernelIdeal Cert.KernelIdeal.Gen Idealize.ShloMosaic Idealize.ShloMosaic.TcCoe

variable {F : FTy → Type} [FloatOps F]

/-- Tile `k` of 256 rows lies inside the 4096 rows of a block. -/
theorem rows_fit {k : ℕ} (hk : k < 16) : S4096x512.Slices ![256 * k, 0] S256x512 := by
  revert k; decide

/-- Tile `k` of 256 rows lies inside the output block. -/
theorem tile_fit {k : ℕ} (hk : k < 16) :
    ∀ a, (![0, 256 * k, 0] : Fin 3 → ℕ) a + S1x256x512.size a ≤ S1x4096x512.size a := by
  revert k; decide

/-- The product of the triangular mask with tile `k` of the loaded block: the running sums inside the tile. -/
def prod (v : Vec F S1x4096x512 .f32) (k : ℕ) (hk : k < 16) : FVec F S256x512 .f32 :=
  matmul dot_S256x256_S256x512_S256x512_1_0_0_1_n_n none (k0_pay3 (F := F))
    (extractStridedSlice S256x512 ![256 * k, 0] (k0_pay4 v) (rows_fit hk)) (constant S256x512 .f32 0x00000000#32)

/-- The row carried into tile `k`: zero plus the last rows of the products before it, in order. -/
def carry (v : Vec F S1x4096x512 .f32) : (k : ℕ) → k ≤ 16 → FVec F S1x512 .f32
  | 0, _ => k0_pay5
  | k + 1, h => addf (carry v k (Nat.le_of_succ_le h))
      (extractStridedSlice S1x512 ![255, 0] (prod v k h) slices_S256x512_o255_0_S1x512)

/-- What the body stores into tile `k`: the product plus the carried row, times one over the row's number counted from
    one. -/
def tile (v : Vec F S1x4096x512 .f32) (k : ℕ) (hk : k < 16) : FVec F S1x256x512 .f32 :=
  shapeCast S1x256x512
    (mulf (addf (prod v k hk) (broadcastTo S256x512 (carry v k (Nat.le_of_lt hk)) broadcasts_S1x512_S256x512))
      (broadcastTo S256x512
        (divf (broadcast S256x1 (Scalar.ofBits .f32 0x3F800000#32))
          (sitofp .f32 (addi (iota .tc S256x1 32 [0] iota_S256x1_d0_w32) (broadcast S256x1 (BitVec.ofNat 32 (256 * k + 1))))))
        broadcasts_S256x1_S256x512))
    shapeCasts_S256x512_S1x256x512

/-- The output block after the body is the canon of the sixteen tiles, the last store first. -/
theorem out_eq (x0 : Vec F S1x4096x512 .f32) :
    out0_1 x0 = View.canon (List.ofFn fun j : Fin 16 =>
      (⟨Rect.unit (s := S1x4096x512) ![0, 256 * (15 - j.val), 0] S1x256x512.size (tile_fit (by omega)),
        tile (View.ld x0 r0_0) (15 - j.val) (by omega)⟩ : View.Piece (Elt F) S1x4096x512 .f32)) := by
  unfold_out out0_1
  rfl

end Cert.KernelIdeal.Tile

end
-- ==== Proof.Prefix.lean ====
/- Sums of extended reals along a row index: prefix sums cut into tiles, sums weighted by a lower-triangular mask, and a
   sum scaled by a nonnegative real. -/
module

public import Idealize.ShloMosaic.PureOps.Ideal.Laws
public import Idealize.ShloMosaic.Lib.IdealHost

@[expose] public section

noncomputable section

namespace Cert.Prefix

open Idealize.ShloMosaic
open scoped BigOperators

/-- The sum of the first `n` entries of a sequence. -/
def pre (f : ℕ → EReal) (n : ℕ) : EReal := ∑ t ∈ Finset.range n, f t

/-- The sum of the first `n + m` entries is the sum of the first `n` plus the sum of the next `m`. -/
theorem pre_add (f : ℕ → EReal) (n m : ℕ) : pre f (n + m) = pre f n + pre (fun t => f (n + t)) m :=
  Finset.sum_range_add f n m

/-- A sum over `N` positions weighted 1 at the positions up to `i` and 0 after them is the sum of the first `i + 1`
    entries. -/
theorem sum_masked (N i : ℕ) (hi : i < N) (f : ℕ → EReal) (w : Fin N → EReal)
    (hw : ∀ k, w k = if k.val ≤ i then 1 else 0) : ∑ k : Fin N, w k * f k.val = pre f (i + 1) := by
  have h1 : ∀ k : Fin N, w k * f k.val = (fun t => if t ≤ i then f t else 0) k.val := by
    intro k
    rw [hw k]
    by_cases h : k.val ≤ i <;> simp [h]
  rw [Finset.sum_congr rfl fun k _ => h1 k, Fin.sum_univ_eq_sum_range (fun t => if t ≤ i then f t else 0) N,
    ← Finset.sum_filter, pre]
  refine Finset.sum_congr ?_ fun _ _ => rfl
  ext t
  simp only [Finset.mem_filter, Finset.mem_range]
  omega

/-- A sum times a nonnegative real is the sum of the products, whatever the terms. -/
theorem sum_mul_real {ι : Type} (s : Finset ι) (f : ι → EReal) (r : ℝ) (hr : 0 ≤ r) :
    (∑ t ∈ s, f t) * (r : EReal) = ∑ t ∈ s, f t * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- The reciprocal of `n + 1` as a real. -/
def recip (n : ℕ) : ℝ := 1 / ((n : ℝ) + 1)

/-- The reciprocal of `n + 1` is not negative. -/
theorem recip_nonneg (n : ℕ) : 0 ≤ recip n := by unfold recip; positivity

/-- An extended real divided by `n + 1` is its product with the reciprocal. -/
theorem div_succ (x : EReal) (n : ℕ) : Ideal.div x (((n : ℝ) + 1 : ℝ) : EReal) = x * (recip n : EReal) :=
  Ideal.div_coe (by positivity) x

/-- A 32-bit word holding a number below 2³¹, converted to a float with exact arithmetic, is that number. -/
theorem sitofp_ofNat (φ : FTy) {n : ℕ} (hn : n < 2 ^ 31) :
    FloatOps.sitofp (F := Ideal) φ (BitVec.ofNat 32 n) = ((n : ℝ) : EReal) := by
  show (((BitVec.ofNat 32 n).toInt : ℝ) : EReal) = _
  have h : (BitVec.ofNat 32 n).toInt = (n : ℤ) := by
    rw [BitVec.toInt_eq_toNat_of_lt] <;> rw [BitVec.toNat_ofNat, Nat.mod_eq_of_lt (by omega)]
    omega
  rw [h, Int.cast_natCast]

/-- Two words holding numbers below 2³¹ compare, converted to floats, as the numbers do. -/
theorem sitofp_le_iff (φ : FTy) {n k : ℕ} (hn : n < 2 ^ 31) (hk : k < 2 ^ 31) :
    (FloatOps.sitofp (F := Ideal) φ (BitVec.ofNat 32 k) : EReal) ≤ FloatOps.sitofp (F := Ideal) φ (BitVec.ofNat 32 n) ↔ k ≤ n := by
  rw [sitofp_ofNat φ hn, sitofp_ofNat φ hk]
  exact EReal.coe_le_coe_iff.trans Nat.cast_le

end Cert.Prefix
-- ==== Proof.Block.lean ====
/- The tiles read with exact arithmetic: row `s` of the output block is the sum of the first `s + 1` rows of the loaded
   block, times the reciprocal of `s + 1`. -/
module

public import proofs.«01_k».proof.Proof.Tile
public import proofs.«01_k».proof.Proof.Prefix
public import Idealize.ShloMosaic.Lib.Pointwise

@[expose] public section

set_option maxRecDepth 16384

noncomputable section

namespace Cert.KernelIdeal.Tile

open Cert.KernelIdeal Cert.KernelIdeal.Gen Cert.Prefix Idealize.ShloMosaic Idealize.ShloMosaic.TcCoe
open scoped BigOperators

/-- The mask's entry in row `i`, column `k`: one up to the diagonal and zero past it. -/
theorem mask_at (i k : Fin 256) :
    k0_pay3 (F := Ideal) (ix2 i k : S256x256.Idx) = if k.val ≤ i.val then (1 : EReal) else 0 := by
  pointwise [k0_pay3]
  exact if_congr (sitofp_le_iff .bf16 (by omega) (by omega)) rfl rfl

/-- Column `d` of a loaded block as a sequence, zero past its 4096 rows. -/
def col (v : FVec Ideal S1x4096x512 .f32) (d : Fin 512) (t : ℕ) : EReal :=
  if h : t < 4096 then v (ix3 0 ⟨t, h⟩ d) else 0

/-- Row `i` of tile `k`'s product is the sum of the tile's first `i + 1` rows. -/
theorem prod_at (v : FVec Ideal S1x4096x512 .f32) (k : ℕ) (hk : k < 16) (i : Fin 256) (d : Fin 512) :
    prod (F := Ideal) v k hk (ix2 i d : S256x512.Idx) = pre (fun t => col v d (256 * k + t)) (i.val + 1) := by
  pointwise [prod, k0_pay4]
  rw [← sum_masked 256 i.val i.isLt (fun t => col v d (256 * k + t)) _ (fun x => mask_at i x)]
  refine Finset.sum_congr rfl fun x _ => congrArg (_ * ·) ?_
  have hx : 256 * k + x.val < 4096 := by omega
  unfold col
  rw [dif_pos hx]

/-- The row carried into tile `k` is the sum of all the rows before the tile. -/
theorem carry_at (v : FVec Ideal S1x4096x512 .f32) (d : Fin 512) : ∀ (k : ℕ) (hk : k ≤ 16),
    carry (F := Ideal) v k hk (ix2 0 d : S1x512.Idx) = pre (col v d) (256 * k)
  | 0, hk => by
    have h : carry (F := Ideal) v 0 hk (ix2 0 d : S1x512.Idx) = (0 : EReal) := by pointwise [carry, k0_pay5]
    rw [h]; rfl
  | k + 1, hk => by
    have h : carry (F := Ideal) v (k + 1) hk (ix2 0 d : S1x512.Idx)
        = carry (F := Ideal) v k (Nat.le_of_succ_le hk) (ix2 0 d : S1x512.Idx)
          + prod (F := Ideal) v k hk (ix2 255 d : S256x512.Idx) := by pointwise [carry]
    rw [h, carry_at v d k (Nat.le_of_succ_le hk), prod_at v k hk 255 d]
    exact (pre_add (col v d) (256 * k) 256).symm

/-- Row `i` of tile `k` is the sum of the rows of the block up to it, times the reciprocal of their number. -/
theorem tile_at (v : FVec Ideal S1x4096x512 .f32) (k : ℕ) (hk : k < 16) (i : Fin 256) (d : Fin 512) :
    tile (F := Ideal) v k hk (ix3 0 i d : S1x256x512.Idx)
      = pre (col v d) (256 * k + i.val + 1) * (recip (256 * k + i.val) : EReal) := by
  pointwise [tile]
  have hw : IntOp.addi (BitVec.ofNat 32 i.val) (BitVec.ofNat 32 (256 * k + 1))
      = BitVec.ofNat 32 (256 * k + i.val + 1) := by
    show BitVec.ofNat 32 i.val + BitVec.ofNat 32 (256 * k + 1) = _
    rw [← BitVec.ofNat_add]
    congr 1
    omega
  rw [hw, sitofp_ofNat .f32 (by omega), prod_at, carry_at, add_comm, ← pre_add, ← add_assoc, Nat.cast_add, Nat.cast_one,
    div_succ, one_mul]

/-- Sixteen row tiles laid over the block, the last first: an entry of the canon is what every tile that holds the entry
    has there. -/
theorem canon_at (P : Fin 16 → S1x256x512.Idx → Elt Ideal .f32) (s : Fin 4096) (d : Fin 512) (r : Elt Ideal .f32)
    (h : ∀ (j : Fin 16) (i : Fin 256), s.val = 256 * (15 - j.val) + i.val → P j (ix3 0 i d : S1x256x512.Idx) = r) :
    View.canon (List.ofFn fun j : Fin 16 =>
      (⟨Rect.unit (s := S1x4096x512) ![0, 256 * (15 - j.val), 0] S1x256x512.size (tile_fit (by omega)), P j⟩ :
        View.Piece (Elt Ideal) S1x4096x512 .f32)) (ix3 0 s d : S1x4096x512.Idx) = r := by
  refine View.canon_ofFn_unit_eq_of_forall (S := S1x4096x512) (fun j : Fin 16 => ![0, 256 * (15 - j.val), 0]) S1x256x512.size
    (fun j : Fin 16 => tile_fit (k := 15 - j.val) (by omega)) P _ _ ?_ ?_
  · refine ⟨⟨15 - s.val / 256, by omega⟩, fun a => ?_⟩
    match a with
    | ⟨0, _⟩ => exact ⟨Nat.zero_le _, Nat.zero_lt_one⟩
    | ⟨1, _⟩ =>
      show 256 * (15 - (15 - s.val / 256)) ≤ s.val ∧ s.val < 256 * (15 - (15 - s.val / 256)) + 256
      omega
    | ⟨2, _⟩ => exact ⟨Nat.zero_le _, by show d.val < 0 + 512; omega⟩
  · intro j x hx
    have h1 : s.val = 256 * (15 - j.val) + (x 1).val := hx 1
    have h2 : d.val = 0 + (x 2).val := hx 2
    have hx' : x = (ix3 0 (x 1) d : S1x256x512.Idx) := by
      funext a
      apply Fin.ext
      match a with
      | ⟨0, _⟩ => have := (x 0).isLt; show (x 0).val = 0; change (x 0).val < 1 at this; omega
      | ⟨1, _⟩ => rfl
      | ⟨2, _⟩ => show (x 2).val = d.val; omega
    rw [hx']
    exact h j (x 1) h1

/-- The output block at row `s`, column `d`: the sum of the first `s + 1` rows of the loaded block, times the reciprocal
    of `s + 1`. -/
theorem out_at (x0 : FVec Ideal S1x4096x512 .f32) (s : Fin 4096) (d : Fin 512) :
    out0_1 (F := Ideal) x0 (ix3 0 s d : S1x4096x512.Idx)
      = pre (col x0 d) (s.val + 1) * (recip s.val : EReal) := by
  rw [out_eq]
  refine canon_at (fun j => tile (F := Ideal) (View.ld x0 r0_0) (15 - j.val) (by omega)) s d _ fun j i hi => ?_
  rw [hi, View.ld_unit_zero (by decide)]
  exact tile_at x0 (15 - j.val) (by omega) i d

end Cert.KernelIdeal.Tile

end
-- ==== Proof.Mean.lean ====
/- The array both programs compute: the mean of each column's rows up to and including the row. -/
module

public import proofs.«01_k».proof.Proof.Prefix
public import Idealize.ShloMosaic.Lib.Pointwise

@[expose] public section

noncomputable section

namespace Cert.Prefix

open Idealize.ShloMosaic

/-- Column `d` of batch `b` as a sequence, zero past its 4096 rows. -/
def column (X : FVec Ideal ⟨3, ![8, 4096, 1024]⟩ .f32) (b : Fin 8) (d : Fin 1024) (t : ℕ) : EReal :=
  if h : t < 4096 then X (ix3 b ⟨t, h⟩ d) else 0

/-- The causal running mean: at row `s`, the sum of the column's first `s + 1` rows times the reciprocal of `s + 1`. -/
def mean (X : FVec Ideal ⟨3, ![8, 4096, 1024]⟩ .f32) : FVec Ideal ⟨3, ![8, 4096, 1024]⟩ .f32 :=
  fun i => pre (column X (i 0) (i 2)) ((i 1).val + 1) * (recip (i 1).val : EReal)

end Cert.Prefix

end
-- ==== Proof.Array.lean ====
/- The kernel's result array after the run: the causal running mean of its argument. -/
module

public import proofs.«01_k».proof.Proof.Gen.KernelIdeal.Value
public import proofs.«01_k».proof.Proof.Block
public import proofs.«01_k».proof.Proof.Mean

@[expose] public section

set_option maxRecDepth 16384

noncomputable section

namespace Cert.KernelIdeal.Tile

open Cert.KernelIdeal Cert.KernelIdeal.Gen Cert.Prefix Idealize.ShloMosaic Idealize.ShloMosaic.TcCoe
open Idealize.ShloMosaic.Pipeline (Dat)

variable (m : (ℓ : Loc nD τ sig) → Buf (Elt Ideal) ℓ)

/-- Both windows map point `t` to batch `t / 2`, column half `t % 2`. -/
theorem idx : ∀ t : Fin cfg0.N, win0_0.index t = ![t.val / 2, 0, t.val % 2] ∧ win0_1.index t = ![t.val / 2, 0, t.val % 2] :=
  (by decide +kernel : ∀ t : Fin grid0.N, _)

/-- A column of the block that point `t` loads is the column of the argument array that the block sits at. -/
theorem col_block (c : Dev nD) (t : Fin cfg0.N) (d : Fin 512) (b : Fin 8) (e : Fin 1024) (hb : b.val = t.val / 2)
    (he : e.val = t.val % 2 * 512 + d.val) :
    col (show FVec Ideal S1x4096x512 .f32 from iblk m c 0 t) d = column (m ((c : Thread nD τ).loc main_arg0)) b e := by
  funext r
  unfold col column
  by_cases h : r < 4096
  · rw [dif_pos h, dif_pos h]
    show iblk m c 0 t _ = _
    blk_ext [iblk, V, idx t]
  · rw [dif_neg h, dif_neg h]

/-- What point `t` leaves at an index of its block is the running mean at the place of that index in the array. -/
theorem point (c : Dev nD) (t : Fin cfg0.N) (y : S1x4096x512.Idx) :
    out0_1 (iblk m c 0 t) y = mean (m ((c : Thread nD τ).loc main_arg0)) ((win0_1.blk t).view.emb y) := by
  have e0 : ((((win0_1.blk t).view.emb y) 0 : Fin 8) : ℕ) = t.val / 2 := by
    blk_simp [idx t]
  have e1 : ((((win0_1.blk t).view.emb y) 1 : Fin 4096) : ℕ) = (y 1).val := by
    blk_simp [idx t]
  have e2 : ((((win0_1.blk t).view.emb y) 2 : Fin 1024) : ℕ) = t.val % 2 * 512 + (y 2).val := by
    blk_simp [idx t]
  have hy : y = (ix3 0 (y 1) (y 2) : S1x4096x512.Idx) := by blk_ext []
  refine (congrArg (out0_1 (iblk m c 0 t)) hy).trans ((out_at _ (y 1) (y 2)).trans ?_)
  show _ = pre (column (m ((c : Thread nD τ).loc main_arg0)) _ _) (((((win0_1.blk t).view.emb y) 1 : Fin 4096) : ℕ) + 1)
    * (recip ((((win0_1.blk t).view.emb y) 1 : Fin 4096) : ℕ) : EReal)
  rw [e1, ← col_block m c t (y 2) _ _ e0 e2]

/-- The result array after the run is the causal running mean of the argument array. -/
theorem final (c : Dev nD) : (dats m 0 c).arrAt 1 cfg0.N = mean (m ((c : Thread nD τ).loc main_arg0)) := by
  refine (dats m 0 c).arrAt_eq_of_covers 1 _ (by decide +kernel) fun t _ y => ?_
  blk_simp
  rw [after0_1]
  exact point m c t y

end Cert.KernelIdeal.Tile

end
-- ==== Proof.Reference.lean ====
/- The reference read with exact arithmetic: its softmax weights are the reciprocal of `s + 1` up to the diagonal and zero
   past it, and its product with them is the causal running mean. -/
module

public import proofs.«01_k».proof.Proof.Gen.ReferenceIdeal.Run
public import proofs.«01_k».proof.Proof.Mean
public import Idealize.ShloMosaic.Lib.Pointwise

@[expose] public section

set_option maxRecDepth 16384

noncomputable section

namespace Cert.ReferenceIdeal.Weights

open Cert.ReferenceIdeal Cert.ReferenceIdeal.Gen Cert.Prefix Idealize.ShloMosaic Idealize.ShloMosaic.TcCoe
open scoped BigOperators

/-- The reference's logits: zero up to the diagonal, minus infinity past it. -/
def logits : FVec Ideal S4096x4096 .f32 :=
  select (cmpf .oeq
      (select (cmpi .sge (addi (iotaInDim S4096x4096 32 0) (broadcastInDim S4096x4096 ![] bcast_S_S4096x4096 (constantI S_ 32 0#32)))
          (iotaInDim S4096x4096 32 1))
        (broadcastInDim S4096x4096 ![] bcast_S_S4096x4096 (constant S_ .f32 0x3F800000#32))
        (broadcastInDim S4096x4096 ![] bcast_S_S4096x4096 (constant S_ .f32 0x00000000#32)) : FVec Ideal S4096x4096 .f32)
      (broadcastInDim S4096x4096 ![] bcast_S_S4096x4096 (constant S_ .f32 0x00000000#32)))
    (broadcastInDim S4096x4096 ![] bcast_S_S4096x4096 (id (constant S_ .f32 0xFF800000#32)))
    (broadcastInDim S4096x4096 ![] bcast_S_S4096x4096 (constant S_ .f32 0x00000000#32))

/-- The maximum of each row of the logits. -/
def rowMax : FVec Ideal S4096 .f32 :=
  Host.reduce FloatOps.maximumf logits (constant S_ .f32 0xFF800000#32) reducesTo_S4096x4096_S4096_d1 h_S_

/-- The exponentials of the logits, each row's maximum subtracted. -/
def exps : FVec Ideal S4096x4096 .f32 :=
  Host.exp (subf logits
    (broadcastInDim S4096x4096 ![0, 1] bcast_S4096x1_S4096x4096_0_1
      (broadcastInDim S4096x1 ![0] bcast_S4096_S4096x1_0
        (maximumf (broadcastInDim S4096 ![] bcast_S_S4096 (constant S_ .f32 0xFF800000#32)) rowMax))))

/-- The softmax weights: the exponentials over their row sums. -/
def weights : FVec Ideal S4096x4096 .f32 :=
  Host.divf exps
    (broadcastInDim S4096x4096 ![0, 1] bcast_S4096x1_S4096x4096_0_1
      (broadcastInDim S4096x1 ![0] bcast_S4096_S4096x1_0
        (Host.reduceAdd exps (constant S_ .f32 0x00000000#32) reducesTo_S4096x4096_S4096_d1 h_S_)))

/-- The reference's result: the argument contracted with the weights, its axes put back in order. -/
def result (X : FVec Ideal S8x4096x1024 .f32) : FVec Ideal S8x4096x1024 .f32 :=
  transpose S8x4096x1024 [0, 2, 1]
    (Host.dotGeneral dot_S8x4096x1024_S4096x4096_S8x1024x4096_1_1_02_0_n_n none X weights)
    transposes_S8x1024x4096_S8x4096x1024_0_2_1

/-- The f32 pattern `0xFF800000` is minus infinity. -/
theorem ofBits_neg_inf : Ideal.ofBits .f32 0xFF800000#32 = ⊥ := by
  simp [Ideal.ofBits, Ideal.ieee]

/-- A host maximum over the columns of a matrix, at row `s`: the fold of the row from the initial value. -/
theorem host_max {n0 n1 : ℕ} (x : FVec Ideal ⟨2, ![n0, n1]⟩ .f32) {u : Shape} (init : u.Idx → Ideal .f32)
    (h : (⟨2, ![n0, n1]⟩ : Shape).ReducesTo [1] ⟨1, ![n0]⟩) (hu : 0 < u.numel) (s : Fin n0) :
    Host.reduce FloatOps.maximumf x init h hu (ix1 s)
      = (Finset.univ : Finset (Fin n1)).fold max (init (Shape.Idx.first hu) : EReal) (fun k => x (ix2 s k)) := by
  rw [Ideal.maximumf_eq_max, Host.reduce_eq_fold]
  exact h.fold_fiber_r2_a1 (ix1 s) max _ x

/-- Words holding numbers below 2³¹ compare, signed, as the numbers do. -/
theorem sge_ofNat {n k : ℕ} (hn : n < 2 ^ 31) (hk : k < 2 ^ 31) :
    IntOp.cmpi .sge (BitVec.ofNat 32 n) (BitVec.ofNat 32 k) = if k ≤ n then 1#1 else 0#1 := by
  have e : ∀ {a : ℕ}, a < 2 ^ 31 → (BitVec.ofNat 32 a).toInt = (a : ℤ) := by
    intro a ha
    rw [BitVec.toInt_eq_toNat_of_lt] <;> rw [BitVec.toNat_ofNat, Nat.mod_eq_of_lt (by omega)]
    omega
  have h : IntOp.cmpi .sge (BitVec.ofNat 32 n) (BitVec.ofNat 32 k)
      = BitVec.ofBool ((BitVec.ofNat 32 k).sle (BitVec.ofNat 32 n)) := rfl
  rw [h, BitVec.sle, e hn, e hk]
  by_cases hc : k ≤ n <;> simp [hc]

/-- The logits' entry in row `s`, column `t`. -/
theorem logits_at (s t : Fin 4096) :
    logits (ix2 s t : S4096x4096.Idx) = if t.val ≤ s.val then (0 : EReal) else ⊥ := by
  pointwise [logits]
  have hz : IntOp.addi (BitVec.ofNat 32 s.val) 0#32 = BitVec.ofNat 32 s.val := BitVec.add_zero _
  rw [hz, sge_ofNat (by omega) (by omega)]
  have hb : id (constant (F := Ideal) S_ .f32 4286578688#32) ix0 = (⊥ : EReal) := ofBits_neg_inf
  rw [hb]
  by_cases h : t.val ≤ s.val
  · rw [if_pos h, if_pos h]
    exact if_neg one_ne_zero
  · rw [if_neg h, if_neg h]
    exact if_pos rfl

/-- Every row's maximum is zero: the diagonal entry is zero and no entry exceeds it. -/
theorem rowMax_at (s : Fin 4096) : rowMax (ix1 s : S4096.Idx) = (0 : EReal) := by
  unfold rowMax
  rw [host_max]
  refine le_antisymm (Finset.fold_max_le _ |>.mpr ⟨?_, fun t _ => ?_⟩) (Finset.le_fold_max _ |>.mpr (.inr ⟨s, Finset.mem_univ _, ?_⟩))
  · exact (le_of_eq ofBits_neg_inf).trans bot_le
  · rw [logits_at]
    split
    · exact le_rfl
    · exact bot_le
  · rw [logits_at, if_pos le_rfl]

/-- The exponential of a matrix less a column vector; taking the vector's maximum with minus infinity
    changes nothing. -/
theorem exp_shift_at (L : FVec Ideal S4096x4096 .f32) (M : FVec Ideal S4096 .f32) (s t : Fin 4096) :
    Host.exp (subf L
      (broadcastInDim S4096x4096 ![0, 1] bcast_S4096x1_S4096x4096_0_1
        (broadcastInDim S4096x1 ![0] bcast_S4096_S4096x1_0
          (maximumf (broadcastInDim S4096 ![] bcast_S_S4096 (constant S_ .f32 0xFF800000#32)) M)))) (ix2 s t : S4096x4096.Idx)
      = Ideal.exp (L (ix2 s t) - M (ix1 s)) := by
  pointwise
  rw [ofBits_neg_inf, max_eq_right bot_le]

/-- The exponentials' entry in row `s`, column `t`. -/
theorem exps_at (s t : Fin 4096) :
    exps (ix2 s t : S4096x4096.Idx) = if t.val ≤ s.val then (1 : EReal) else 0 := by
  refine (exp_shift_at logits rowMax s t).trans ?_
  rw [rowMax_at, logits_at]
  by_cases h : t.val ≤ s.val
  · rw [if_pos h, if_pos h, sub_zero]
    show Ideal.exp ((0 : ℝ) : EReal) = 1
    rw [Ideal.exp_coe, Real.exp_zero, EReal.coe_one]
  · rw [if_neg h, if_neg h, sub_zero, Ideal.exp_bot]

/-- The exponentials of row `s` add up to `s + 1`. -/
theorem exps_sum (s : Fin 4096) : ∑ t : Fin 4096, exps (ix2 s t : S4096x4096.Idx) = (((s.val : ℝ) + 1 : ℝ) : EReal) := by
  have h := sum_masked 4096 s.val s.isLt (fun _ => 1) _ (exps_at s)
  simp only [mul_one] at h
  rw [h, pre, Finset.sum_const, Finset.card_range, nsmul_one]
  norm_cast

/-- The weight of row `t` in row `s` of the result: the reciprocal of `s + 1` up to the diagonal, zero past it. -/
theorem weights_at (s t : Fin 4096) :
    weights (ix2 s t : S4096x4096.Idx) = (if t.val ≤ s.val then (1 : EReal) else 0) * (recip s.val : EReal) := by
  pointwise [weights]
  rw [exps_sum, exps_at, div_succ]

/-- The reference's result at batch `b`, row `s`, column `d`. -/
theorem result_at (X : FVec Ideal S8x4096x1024 .f32) (b : Fin 8) (s : Fin 4096) (d : Fin 1024) :
    result X (ix3 b s d : S8x4096x1024.Idx) = pre (column X b d) (s.val + 1) * (recip s.val : EReal) := by
  pointwise [result]
  rw [← sum_masked 4096 s.val s.isLt (column X b d) (fun t => if t.val ≤ s.val then 1 else 0) (fun _ => rfl),
    sum_mul_real _ _ _ (recip_nonneg _)]
  refine Finset.sum_congr rfl fun t _ => ?_
  have hc : column X b d t.val = X (ix3 b t d) := dif_pos t.isLt
  rw [weights_at, hc, ← mul_assoc, mul_comm (X _)]

/-- The reference's result is the causal running mean of its argument. -/
theorem result_eq (X : FVec Ideal S8x4096x1024 .f32) : result X = mean X := by
  funext i
  rw [eq_ix3 i]
  exact result_at X (i 0) (i 1) (i 2)

end Cert.ReferenceIdeal.Weights

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference keeps its argument, terminates, and ends with every semaphore counter at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- With exact arithmetic the kernel and the reference both end with the causal running mean of the argument. -/
theorem same_mean : Cert.algebraic_KernelIdeal_ReferenceIdeal (hKernelIdeal := Cert.KernelIdeal.Gen.facts)
    (hReferenceIdeal := Cert.ReferenceIdeal.Gen.facts) := by
  intro m g m' g' _ hagree
  refine ⟨fun c => Cert.Prefix.mean (m ((c.tc : Thread Cert.KernelIdeal.nD Cert.KernelIdeal.τ).loc Cert.KernelIdeal.main_arg0)),
    ?_, ?_⟩
  · exact (θ_run Cert.KernelIdeal.defs _ _).mono
      (fun r h c => ⟨(h c).1.trans (Cert.KernelIdeal.Tile.final m c), (h c).2⟩)
      (Cert.KernelIdeal.Value.run_blocks (F := Ideal) m g)
  · exact (θ_run Cert.ReferenceIdeal.defs _ _).mono
      (fun r h c => ⟨(h c).1.trans ((Cert.ReferenceIdeal.Weights.result_eq _).trans
        (congrArg Cert.Prefix.mean (hagree c))), (h c).2⟩)
      (Cert.ReferenceIdeal.Value.run (F := Ideal) m' g')

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same_mean⟩

end Cert.Proof

end
